-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S100000 : Shape := ⟨1, ![100000]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S20x1x5000 : Shape := ⟨3, ![20, 1, 5000]⟩
abbrev S1x1024 : Shape := ⟨2, ![1, 1024]⟩
abbrev S1x1 : Shape := ⟨2, ![1, 1]⟩
abbrev S64x512 : Shape := ⟨2, ![64, 512]⟩
abbrev S5000x512 : Shape := ⟨2, ![5000, 512]⟩
abbrev S1x1x5000 : Shape := ⟨3, ![1, 1, 5000]⟩
abbrev S64x1 : Shape := ⟨2, ![64, 1]⟩
abbrev S5000x1024 : Shape := ⟨2, ![5000, 1024]⟩
abbrev S1x5000 : Shape := ⟨2, ![1, 5000]⟩
abbrev S64x5000 : Shape := ⟨2, ![64, 5000]⟩
abbrev S64 : Shape := ⟨1, ![64]⟩

abbrev nBuf : Space → Nat
  | .hbm => 14
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S20x1x5000, .i32⟩
  | .hbm, ⟨7, _⟩ => ⟨S1x1024, .f32⟩
  | .hbm, ⟨8, _⟩ => ⟨S1x1024, .bf16⟩
  | .hbm, ⟨9, _⟩ => ⟨S1x1024, .f32⟩
  | .hbm, ⟨10, _⟩ => ⟨S1x1024, .bf16⟩
  | .hbm, ⟨11, _⟩ => ⟨S1x1, .f32⟩
  | .hbm, ⟨12, _⟩ => ⟨S512x1024, .bf16⟩
  | .hbm, ⟨13, _⟩ => ⟨S64x512, .f32⟩
  | .local _ .vmem, ⟨0, _⟩ => ⟨S5000x512, .f32⟩
  | .local _ .vmem, ⟨1, _⟩ => ⟨S5000x512, .f32⟩
  | .local _ .vmem, ⟨2, _⟩ => ⟨S1x1x5000, .i32⟩
  | .local _ .vmem, ⟨3, _⟩ => ⟨S1x1x5000, .i32⟩
  | .local _ .vmem, ⟨4, _⟩ => ⟨S512x1024, .bf16⟩
  | .local _ .vmem, ⟨5, _⟩ => ⟨S1x1024, .bf16⟩
  | .local _ .vmem, ⟨6, _⟩ => ⟨S1x1024, .bf16⟩
  | .local _ .vmem, ⟨7, _⟩ => ⟨S1x1, .f32⟩
  | .local _ .vmem, ⟨8, _⟩ => ⟨S64x512, .f32⟩
  | .local _ .vmem, ⟨9, _⟩ => ⟨S64x1, .f32⟩
  | .local _ .vmem, ⟨10, _⟩ => ⟨S64x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S100000x512 : Shape := ⟨2, ![100000, 512]⟩
abbrev S100000 : Shape := ⟨1, ![100000]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S100000x1024 : Shape := ⟨2, ![100000, 1024]⟩
abbrev S1x1024 : Shape := ⟨2, ![1, 1024]⟩
abbrev S_ : Shape := ⟨0, ![]⟩
abbrev S100000x1 : Shape := ⟨2, ![100000, 1]⟩
abbrev S1x1 : Shape := ⟨2, ![1, 1]⟩
abbrev S1x100000 : Shape := ⟨2, ![1, 100000]⟩
abbrev S64 : Shape := ⟨1, ![64]⟩
abbrev S64x1 : Shape := ⟨2, ![64, 1]⟩
abbrev S64x100000 : Shape := ⟨2, ![64, 100000]⟩
abbrev S64x512 : Shape := ⟨2, ![64, 512]⟩

abbrev nBuf : Space → Nat
  | .hbm => 75
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S100000x1024, .f32⟩
  | .hbm, ⟨7, _⟩ => ⟨S1x1024, .f32⟩
  | .hbm, ⟨8, _⟩ => ⟨S100000x1024, .f32⟩
  | .hbm, ⟨9, _⟩ => ⟨S100000x1024, .f32⟩
  | .hbm, ⟨10, _⟩ => ⟨S_, .f32⟩
  | .hbm, ⟨11, _⟩ => ⟨S100000x1024, .f32⟩
  | .hbm, ⟨12, _⟩ => ⟨S100000x1024, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S1x100000, .i32⟩
  | .hbm, ⟨19, _⟩ => ⟨S64, .i32⟩
  | .hbm, ⟨20, _⟩ => ⟨S64x1, .i32⟩
  | .hbm, ⟨21, _⟩ => ⟨S64x100000, .i32⟩
  | .hbm, ⟨22, _⟩ => ⟨S64x100000, .i32⟩
  | .hbm, ⟨23, _⟩ => ⟨S64x100000, .i1⟩
  | .hbm, ⟨24, _⟩ => ⟨S1x100000, .f32⟩
  | .hbm, ⟨25, _⟩ => ⟨S_, .f32⟩
  | .hbm, ⟨26, _⟩ => ⟨S_, .f32⟩
  | .hbm, ⟨27, _⟩ => ⟨S64x100000, .f32⟩
  | .hbm, ⟨28, _⟩ => ⟨S64x100000, .f32⟩
  | .hbm, ⟨29, _⟩ => ⟨S64x100000, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .i1⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000, .f32⟩
  | .hbm, ⟨49, _⟩ => ⟨S100000, .f32⟩
  | .hbm, ⟨50, _⟩ => ⟨S100000, .f32⟩
  | .hbm, ⟨51, _⟩ => ⟨S_, .f32⟩
  | .hbm, ⟨52, _⟩ => ⟨S64, .f32⟩
  | .hbm, ⟨53, _⟩ => ⟨S100000x1, .i32⟩
  | .hbm, ⟨54, _⟩ => ⟨S64, .f32⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x512, .f32⟩
  | .hbm, ⟨70, _⟩ => ⟨S100000x512, .f32⟩
  | .hbm, ⟨71, _⟩ => ⟨S_, .f32⟩
  | .hbm, ⟨72, _⟩ => ⟨S64x512, .f32⟩
  | .hbm, ⟨73, _⟩ => ⟨S100000x1, .i32⟩
  | .hbm, ⟨74, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Proof.Cases.lean ====
/- What one grid point leaves in the output block and in the two scratch buffers, per case of the body (the first point,
   a middle point, the last point), as the body's own payloads: the running maximum, the running denominator and the
   running weighted sum each go through ONE step, from the start values at the first point, and the last point divides.
   Hand-written, untrusted. -/
module

public import proofs.«01_k».proof.Proof.Gen.KernelIdeal.Value
public import Idealize.ShloMosaic.Lib.Tactic

@[expose] public section

noncomputable section

namespace Cert.KernelIdeal.Cases

open Cert.KernelIdeal Cert.KernelIdeal.Gen Idealize.ShloMosaic Idealize.ShloMosaic.TcCoe Idealize.SL.Sem

variable {F : FTy → Type} [FloatOps F] [Named F]

/-- The offsets every access of the body uses. -/
theorem off2 : (![0, 0] : Fin 2 → Nat) = fun _ => 0 := funext fun a => by fin_cases a <;> rfl

/-- Three zero offsets are the constant zero. -/
theorem off3 : (![0, 0, 0] : Fin 3 → Nat) = fun _ => 0 := funext fun a => by fin_cases a <;> rfl

/-- Storing the maximum moves no entry. -/
theorem pay4_eq (v : Vec F S64x1 .f32) : k0_pay4 v = v := by
  unfold k0_pay4
  exact shapeCast_self v _

section Step

variable (x0 : Vec F S5000x512 .f32) (x1 : Vec F S1x1x5000 .i32) (x2 : Vec F S512x1024 .bf16) (x3 : Vec F S1x1024 .bf16)
  (x4 : Vec F S1x1024 .bf16) (x5 : Vec F S1x1 .f32)

/-- The running maximum after a point, from the one before. -/
def newMax (M : Vec F S64x1 .f32) : Vec F S64x1 .f32 := k0_pay13 x0 x2 x3 x4 x5 x1 M
/-- The running denominator after a point. -/
def newDen (M D : Vec F S64x1 .f32) : Vec F S64x1 .f32 :=
  k0_pay3 (k0_pay11 x0 x2 x3 x4 x5) (k0_pay12 x1) M (newMax x0 x1 x2 x3 x4 x5 M) D
/-- The running weighted sum after a point. -/
def newNum (M : Vec F S64x1 .f32) (O : Vec F S64x512 .f32) : Vec F S64x512 .f32 :=
  k0_pay5 (k0_pay10 x0) (k0_pay11 x0 x2 x3 x4 x5) (k0_pay12 x1) M (newMax x0 x1 x2 x3 x4 x5 M) O

end Step

section Cases

variable (c : Dev nD) (i : grid0.Coords)
  (a1 : Memref sig .tc .vmem S5000x512 .f32) (h1 : a1.IsWhole) (a2 : Memref sig .tc .vmem S1x1x5000 .i32) (h2 : a2.IsWhole)
  (a3 : Memref sig .tc .vmem S512x1024 .bf16) (h3 : a3.IsWhole) (a4 : Memref sig .tc .vmem S1x1024 .bf16) (h4 : a4.IsWhole)
  (a5 : Memref sig .tc .vmem S1x1024 .bf16) (h5 : a5.IsWhole) (a6 : Memref sig .tc .vmem S1x1 .f32) (h6 : a6.IsWhole)
  (a7 : Memref sig .tc .vmem S64x512 .f32) (h7 : a7.IsWhole) (a8 : Memref sig .tc .vmem S64x1 .f32) (h8 : a8.IsWhole)
  (a9 : Memref sig .tc .vmem S64x1 .f32) (h9 : a9.IsWhole)
  (x0 : Vec F S5000x512 .f32) (x1 : Vec F S1x1x5000 .i32) (x2 : Vec F S512x1024 .bf16) (x3 : Vec F S1x1024 .bf16)
  (x4 : Vec F S1x1024 .bf16) (x5 : Vec F S1x1 .f32)
  (O : Vec F S64x512 .f32) (M : Vec F S64x1 .f32) (D : Vec F S64x1 .f32)

/-- At the first point: the maximum. -/
theorem max_A (hc0 : cond0_0 i) (hc1 : ¬cond0_1 i) :
    sout0_A_0 c i a1 h1 a2 h2 a3 h3 a4 h4 a5 h5 a6 h6 a7 h7 a8 h8 a9 h9 hc0 hc1 x0 x1 x2 x3 x4 x5 = newMax x0 x1 x2 x3 x4 x5 k0_pay7 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S64x1) off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  exact pay4_eq _

/-- At the first point: the denominator. -/
theorem den_A (hc0 : cond0_0 i) (hc1 : ¬cond0_1 i) :
    sout0_A_1 c i a1 h1 a2 h2 a3 h3 a4 h4 a5 h5 a6 h6 a7 h7 a8 h8 a9 h9 hc0 hc1 x0 x1 x2 x3 x4 x5 = newDen x0 x1 x2 x3 x4 x5 k0_pay7 k0_pay8 := by
  unfold sout0_A_1
  rw [View.read_writes_eq_canon _ _ _ (scover0_A_1 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S64x1) off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  rfl

/-- At the first point: the weighted sum. -/
theorem num_A (hc0 : cond0_0 i) (hc1 : ¬cond0_1 i) :
    out0_A_6 c i a1 h1 a2 h2 a3 h3 a4 h4 a5 h5 a6 h6 a7 h7 a8 h8 a9 h9 hc0 hc1 x0 x1 x2 x3 x4 x5 = newNum x0 x1 x2 x3 x4 x5 k0_pay7 k0_pay9 := by
  unfold out0_A_6
  rw [View.read_writes_eq_canon _ _ _ (cover0_A_6 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S64x512) off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  rfl

/-- At a middle point: the maximum. -/
theorem max_B (hc0 : ¬cond0_0 i) (hc1 : ¬cond0_1 i) :
    sout0_B_0 c i a1 h1 a2 h2 a3 h3 a4 h4 a5 h5 a6 h6 a7 h7 a8 h8 a9 h9 hc0 hc1 x0 x1 x2 x3 x4 x5 O M D = newMax x0 x1 x2 x3 x4 x5 M := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 O M D)]
  unfold kernelRun0_B
  dsimp only
  sl_unfold_words
  rw [View.canon_unit_zero off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  exact pay4_eq _

/-- At a middle point: the denominator. -/
theorem den_B (hc0 : ¬cond0_0 i) (hc1 : ¬cond0_1 i) :
    sout0_B_1 c i a1 h1 a2 h2 a3 h3 a4 h4 a5 h5 a6 h6 a7 h7 a8 h8 a9 h9 hc0 hc1 x0 x1 x2 x3 x4 x5 O M D = newDen x0 x1 x2 x3 x4 x5 M D := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 x5 O M D)]
  unfold kernelRun0_B
  dsimp only
  sl_unfold_words
  rw [View.canon_unit_zero off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  rfl

/-- At a middle point: the weighted sum. -/
theorem num_B (hc0 : ¬cond0_0 i) (hc1 : ¬cond0_1 i) :
    out0_B_6 c i a1 h1 a2 h2 a3 h3 a4 h4 a5 h5 a6 h6 a7 h7 a8 h8 a9 h9 hc0 hc1 x0 x1 x2 x3 x4 x5 O M D = newNum x0 x1 x2 x3 x4 x5 M O := by
  unfold out0_B_6
  rw [View.read_writes_eq_canon _ _ _ (cover0_B_6 c i a1 h1 a2 h2 a3 h3 a4 h4 a5 h5 a6 h6 a7 h7 a8 h8 a9 h9 hc0 hc1 x0 x1 x2 x3 x4 x5 O M D)]
  unfold kernelRun0_B
  dsimp only
  sl_unfold_words
  rw [View.canon_unit_zero off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  rfl

/-- At the last point: the maximum. -/
theorem max_C (hc0 : ¬cond0_0 i) (hc1 : cond0_1 i) :
    sout0_C_0 c i a1 h1 a2 h2 a3 h3 a4 h4 a5 h5 a6 h6 a7 h7 a8 h8 a9 h9 hc0 hc1 x0 x1 x2 x3 x4 x5 O M D = newMax x0 x1 x2 x3 x4 x5 M := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 x5 O M D)]
  unfold kernelRun0_C
  dsimp only
  sl_unfold_words
  rw [View.canon_unit_zero off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  exact pay4_eq _

/-- At the last point: the denominator. -/
theorem den_C (hc0 : ¬cond0_0 i) (hc1 : cond0_1 i) :
    sout0_C_1 c i a1 h1 a2 h2 a3 h3 a4 h4 a5 h5 a6 h6 a7 h7 a8 h8 a9 h9 hc0 hc1 x0 x1 x2 x3 x4 x5 O M D = newDen x0 x1 x2 x3 x4 x5 M D := by
  unfold sout0_C_1
  rw [View.read_writes_eq_canon _ _ _ (scover0_C_1 c i a1 h1 a2 h2 a3 h3 a4 h4 a5 h5 a6 h6 a7 h7 a8 h8 a9 h9 hc0 hc1 x0 x1 x2 x3 x4 x5 O M D)]
  unfold kernelRun0_C
  dsimp only
  sl_unfold_words
  rw [View.canon_unit_zero off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  rfl

/-- At the last point: the weighted sum divided by the denominator. -/
theorem num_C (hc0 : ¬cond0_0 i) (hc1 : cond0_1 i) :
    out0_C_6 c i a1 h1 a2 h2 a3 h3 a4 h4 a5 h5 a6 h6 a7 h7 a8 h8 a9 h9 hc0 hc1 x0 x1 x2 x3 x4 x5 O M D = k0_pay6 (newNum x0 x1 x2 x3 x4 x5 M O) (newDen x0 x1 x2 x3 x4 x5 M D) := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 O M D)]
  unfold kernelRun0_C
  dsimp only
  sl_unfold_words
  rw [View.canon_cons_unit_zero (S := S64x512) off2]
  simp only [View.readCov_unit_zero (S := S64x1) _ off2, View.readCov_unit_zero (S := S64x512) _ off2,
    View.readAt_eq_ld, h1.read_unread, h2.read_unread, h3.read_unread, h4.read_unread, h5.read_unread, h6.read_unread,
    h7.read_unread, h8.read_unread, h9.read_unread, View.ld_unit_zero (S := S5000x512) off2,
    View.ld_unit_zero (S := S1x1x5000) off3, View.ld_unit_zero (S := S512x1024) off2,
    View.ld_unit_zero (S := S1x1024) off2, View.ld_unit_zero (S := S1x1) off2, View.ld_unit_zero (S := S64x1) off2,
    View.ld_unit_zero (S := S64x512) off2]
  rfl

end Cases

end Cert.KernelIdeal.Cases

end
-- ==== Proof.Online.lean ====
/- The mathematics of the claim, over the extended reals and without a program: a segment's softmax weights taken
   against a RUNNING maximum, rescaled each time the maximum grows, add up to the same weighted sum as the weights
   taken against the final maximum and divided by their total. Every theorem holds at the infinities too, so nothing
   here assumes an input finite. Hand-written, untrusted. -/
module

public import Idealize.ShloMosaic.PureOps.Ideal
public import Idealize.ShloMosaic.PureOps.Ideal.Laws

@[expose] public section

noncomputable section

open Idealize.ShloMosaic

namespace Cert.Online

/-! ## The exponential and a product by a finite nonnegative factor -/

/-- The exponential of minus infinity is zero. -/
theorem exp_bot : Ideal.exp ⊥ = 0 := rfl

/-- The exponential of infinity is infinity. -/
theorem exp_top : Ideal.exp ⊤ = ⊤ := rfl

/-- The exponential of a real number is the real exponential. -/
theorem exp_coe (r : ℝ) : Ideal.exp (r : EReal) = (Real.exp r : EReal) := rfl

/-- The exponential is never negative. -/
theorem exp_nonneg (x : EReal) : 0 ≤ Ideal.exp x := by
  induction x with
  | bot => exact le_refl _
  | top => exact le_top
  | coe r => exact EReal.coe_nonneg.2 (Real.exp_pos r).le

/-- The exponential of a difference that is not positive is at most one, so it is not `⊤`. -/
theorem exp_sub_ne_top {a b : EReal} (h : a ≤ b) : Ideal.exp (a - b) ≠ ⊤ := by
  induction b with
  | bot => rw [le_bot_iff.1 h, EReal.bot_sub]; exact EReal.zero_ne_top
  | top => rw [EReal.sub_top, exp_bot]; exact EReal.zero_ne_top
  | coe b =>
    induction a with
    | bot => rw [EReal.bot_sub]; exact EReal.zero_ne_top
    | top => exact absurd (top_le_iff.1 h) (EReal.coe_ne_top b)
    | coe a => rw [← EReal.coe_sub, exp_coe]; exact EReal.coe_ne_top _

/-- Moving a weight from the maximum `m` to a later maximum `M`: the weight against `m` times `exp (m - M)` is the weight
    against `M`. It holds where `m` or `M` is infinite, both sides then being zero. -/
theorem rescale {g m M : EReal} (hg : g ≤ m) (hm : m ≤ M) : Ideal.exp (g - m) * Ideal.exp (m - M) = Ideal.exp (g - M) := by
  induction M with
  | bot => rw [le_bot_iff.1 hm] at hg ⊢; rw [le_bot_iff.1 hg, EReal.bot_sub, exp_bot, zero_mul]
  | top => rw [EReal.sub_top, EReal.sub_top, exp_bot, mul_zero]
  | coe M =>
    induction m with
    | bot => rw [le_bot_iff.1 hg, EReal.bot_sub, EReal.bot_sub, exp_bot, zero_mul]
    | top => exact absurd (top_le_iff.1 hm) (EReal.coe_ne_top M)
    | coe m =>
      induction g with
      | bot => rw [EReal.bot_sub, EReal.bot_sub, exp_bot, zero_mul]
      | top => exact absurd (top_le_iff.1 hg) (EReal.coe_ne_top m)
      | coe g =>
        rw [← EReal.coe_sub, ← EReal.coe_sub, ← EReal.coe_sub, exp_coe, exp_coe, exp_coe, ← EReal.coe_mul, ← Real.exp_add]
        congr 2; ring

variable {ι : Type*}

/-- A finite nonnegative factor goes into a sum of extended reals, whatever the terms. -/
theorem sum_mul {c : EReal} (h0 : 0 ≤ c) (ht : c ≠ ⊤) (R : Finset ι) (f : ι → EReal) : (∑ i ∈ R, f i) * c = ∑ i ∈ R, f i * c := by
  classical
  induction R using Finset.induction_on with
  | empty => rw [Finset.sum_empty, Finset.sum_empty, zero_mul]
  | insert a R ha ih => rw [Finset.sum_insert ha, Finset.sum_insert ha, EReal.right_distrib_of_nonneg_of_ne_top h0 ht, ih]

/-! ## One step of the running maximum -/

/-- A segment's weights against its own maximum. -/
abbrev weight (R : Finset ι) (g : ι → EReal) (i : ι) : EReal := Ideal.exp (g i - R.sup g)
/-- Their total. -/
def den (R : Finset ι) (g : ι → EReal) : EReal := ∑ i ∈ R, weight R g i
/-- Their sum weighted by `x`. -/
def num (R : Finset ι) (g x : ι → EReal) : EReal := ∑ i ∈ R, weight R g i * x i

variable [DecidableEq ι] (R B : Finset ι) (g x : ι → EReal)

/-- The total over the rows seen, rescaled to the grown maximum, plus the new rows' weights, is the total over both. -/
theorem den_step (h : Disjoint R B) :
    den R g * Ideal.exp (R.sup g - (R.sup g ⊔ B.sup g)) + ∑ i ∈ B, Ideal.exp (g i - (R.sup g ⊔ B.sup g)) = den (R ∪ B) g := by
  unfold den weight
  rw [Finset.sup_union, Finset.sum_union h, sum_mul (exp_nonneg _) (exp_sub_ne_top le_sup_left)]
  exact congrArg (· + _) (Finset.sum_congr rfl fun i hi => rescale (Finset.le_sup hi) le_sup_left)

/-- The same of the weighted sum. -/
theorem num_step (h : Disjoint R B) :
    num R g x * Ideal.exp (R.sup g - (R.sup g ⊔ B.sup g)) + ∑ i ∈ B, Ideal.exp (g i - (R.sup g ⊔ B.sup g)) * x i
      = num (R ∪ B) g x := by
  unfold num weight
  rw [Finset.sup_union, Finset.sum_union h, sum_mul (exp_nonneg _) (exp_sub_ne_top le_sup_left)]
  refine congrArg (· + _) (Finset.sum_congr rfl fun i hi => ?_)
  rw [mul_right_comm, rescale (Finset.le_sup hi) le_sup_left]

/-! ## The quotient, taken after the sum or before it -/

/-- The maximum a softmax subtracts: the segment's, or zero where that is infinite. -/
def shift (M : EReal) : EReal := if max M (-M) < ⊤ then M else 0

/-- A real maximum is subtracted as it is. -/
theorem shift_coe (r : ℝ) : shift (r : EReal) = r := by
  unfold shift
  rw [if_pos]
  rw [max_lt_iff, ← EReal.coe_neg]
  exact ⟨EReal.coe_lt_top _, EReal.coe_lt_top _⟩

/-- For an infinite maximum zero is subtracted. -/
theorem shift_top : shift ⊤ = 0 := if_neg (by simp)

/-- For an empty segment, or gates all minus infinity, zero is subtracted. -/
theorem shift_bot : shift ⊥ = 0 := if_neg (by simp)

/-- Off zero a quotient is the product by the inverse. -/
theorem div_of_ne {a b : EReal} (h : b ≠ 0) : Ideal.div a b = a * b⁻¹ := if_neg h

/-- A nonnegative quantity plus a positive number is not zero. -/
theorem add_pos_ne {d ε : EReal} (hd : 0 ≤ d) (hε : 0 < ε) : d + ε ≠ 0 := (hε.trans_le (le_add_of_nonneg_left hd)).ne'

omit [DecidableEq ι] in
/-- A sum of exponentials is not negative. -/
theorem sum_exp_nonneg (f : ι → EReal) : 0 ≤ ∑ i ∈ R, Ideal.exp (f i) := Finset.sum_nonneg fun _ _ => exp_nonneg _

omit [DecidableEq ι] in
/-- THE LAST STEP. The weighted sum divided by the total plus a positive `ε` is the sum of the weights each divided by
    their total plus `ε`, the second taken against the shifted maximum. Where the maximum is a number this is
    distributivity by a finite positive factor; where it is `⊥` every weight is zero on both sides; where it is `⊤` the
    first's weights are all zero, and the second's total is `⊤`, whose inverse is zero. -/
theorem quotient {ε : EReal} (hε : 0 < ε) :
    Ideal.div (num R g x) (den R g + ε)
      = ∑ i ∈ R, Ideal.div (Ideal.exp (g i - shift (R.sup g))) ((∑ k ∈ R, Ideal.exp (g k - shift (R.sup g))) + ε) * x i := by
  have hden : den R g + ε ≠ 0 := add_pos_ne (sum_exp_nonneg R _) hε
  rw [div_of_ne hden]
  simp only [div_of_ne (add_pos_ne (sum_exp_nonneg R _) hε)]
  unfold num den weight at *
  generalize hM : R.sup g = M at *
  have hle : ∀ i ∈ R, g i ≤ M := fun i hi => hM ▸ Finset.le_sup hi
  induction M with
  | bot =>
    have hz : ∀ i ∈ R, g i = ⊥ := fun i hi => le_bot_iff.1 (hle i hi)
    rw [Finset.sum_eq_zero fun i hi => by rw [hz i hi, EReal.bot_sub, exp_bot, zero_mul], zero_mul,
      Finset.sum_eq_zero fun i hi => by rw [hz i hi, EReal.bot_sub, exp_bot, zero_mul, zero_mul]]
  | top =>
    rw [Finset.sum_eq_zero fun i _ => by rw [EReal.sub_top, exp_bot, zero_mul], zero_mul, shift_top]
    have hne : R.Nonempty := by
      rw [Finset.nonempty_iff_ne_empty]
      rintro rfl
      exact bot_ne_top hM
    obtain ⟨j, hj, hjM⟩ := R.exists_mem_eq_sup hne g
    have htop : ∑ k ∈ R, Ideal.exp (g k - 0) = ⊤ := by
      refine top_le_iff.1 ?_
      have := Finset.single_le_sum (f := fun k => Ideal.exp (g k - 0)) (fun i _ => exp_nonneg _) hj
      rwa [← hjM, hM, sub_zero, exp_top] at this
    rw [htop, EReal.top_add_of_ne_bot (bot_lt_iff_ne_bot.1 (EReal.bot_lt_zero.trans hε)), EReal.inv_top]
    exact (Finset.sum_eq_zero fun i _ => by rw [mul_zero, zero_mul]).symm
  | coe M =>
    rw [shift_coe, sum_mul (EReal.inv_nonneg_of_nonneg (add_nonneg (sum_exp_nonneg R _) hε.le)) (EReal.inv_lt_top _).ne]
    exact Finset.sum_congr rfl fun i _ => mul_right_comm _ _ _

end Cert.Online

end
-- ==== Proof.Spec.lean ====
/- The common value of the two programs: per segment, the softmax-weighted sum of its rows, with the gate that weighs
   them. Hand-written, untrusted. -/
module

public import proofs.«01_k».proof.Proof.Online
public import Idealize.ShloMosaic.Lib.Pointwise

@[expose] public section

noncomputable section

namespace Cert.Spec

open Idealize.ShloMosaic

/-! ## Words and bits -/

/-- Choosing by a bit is choosing by what the bit says. -/
theorem select_of_iff {b : BitVec 1} {p : Prop} [Decidable p] (h : b = 1#1 ↔ p) (x y : EReal) :
    Scalar.select b x y = if p then x else y := by
  unfold Scalar.select
  by_cases hp : p
  · rw [if_pos hp, h.2 hp]; rfl
  · rw [if_neg hp]
    have hb : b ≠ 1#1 := fun e => hp (h.1 e)
    simp [hb]

/-- The largest value over the indices a predicate keeps, as one fold over all indices with ⊥ for the dropped ones. -/
theorem fold_ite {n : Nat} (p : Fin n → Prop) [DecidablePred p] (f : Fin n → EReal) :
    Finset.fold max ⊥ (fun k => if p k then f k else ⊥) Finset.univ = (Finset.univ.filter p).sup f := by
  show Finset.univ.sup (fun k => if p k then f k else ⊥) = _
  refine le_antisymm (Finset.sup_le fun k _ => ?_) (Finset.sup_le fun k hk => ?_)
  · split
    · exact Finset.le_sup (f := f) (Finset.mem_filter.2 ⟨Finset.mem_univ _, by assumption⟩)
    · exact bot_le
  · have hp := (Finset.mem_filter.1 hk).2
    have := Finset.le_sup (f := fun k => if p k then f k else ⊥) (Finset.mem_univ k)
    simpa [hp] using this

/-- The bit of an equality test is set exactly when the two words agree. -/
theorem bit_eq {w : Nat} (a b : BitVec w) : IntOp.cmpi .eq a b = 1#1 ↔ a = b := by
  unfold IntOp.cmpi
  by_cases h : a = b
  · simp [h]
  · have hb : (a == b) = false := by simpa using h
    simp [h, hb]

/-- The neutral word of a maximum is the least extended real. -/
theorem ofBits_bot : Ideal.ofBits .f32 0xFF800000#32 = (⊥ : EReal) := by
  simp [Ideal.ofBits, Ideal.ieee, -EReal.coe_mul]

/-- The word of +∞. -/
theorem ofBits_top : Ideal.ofBits .f32 0x7F800000#32 = (⊤ : EReal) := by
  simp [Ideal.ofBits, Ideal.ieee, -EReal.coe_mul]

/-- The word of zero. -/
theorem ofBits_zero : Ideal.ofBits .f32 0x00000000#32 = (0 : EReal) := by
  simp [Ideal.ofBits, Ideal.ieee, -EReal.coe_mul]

/-! ## The common value -/

variable (X : (⟨2, ![100000, 512]⟩ : Shape).Idx → EReal) (b : (⟨1, ![100000]⟩ : Shape).Idx → BitVec 32)
  (W1 : (⟨2, ![512, 1024]⟩ : Shape).Idx → EReal) (b1 : (⟨1, ![1024]⟩ : Shape).Idx → EReal)
  (W2 : (⟨2, ![1024, 1]⟩ : Shape).Idx → EReal) (b2 : (⟨1, ![1]⟩ : Shape).Idx → EReal)

/-- The gate of a row: two dense layers, the first one rectified. -/
def gate (i : Fin 100000) : EReal :=
  (∑ c : Fin 1024, W2 (ix2 c 0) * max ((∑ a : Fin 512, X (ix2 i a) * W1 (ix2 a c)) + b1 (ix1 c)) 0) + b2 (ix1 0)

/-- The rows of a segment. -/
def seg (s : Fin 64) : Finset (Fin 100000) := Finset.univ.filter fun i => BitVec.ofNat 32 s.val = b (ix1 i)

/-- The small addend of the division. -/
def eps : EReal := Ideal.ofBits .f32 0x24E69595#32

/-- It is positive. -/
theorem eps_pos : 0 < eps := by
  unfold eps
  simp [Ideal.ofBits, Ideal.ieee, -EReal.coe_mul]

/-- The result at segment `s`, column `j`. -/
def result (s : Fin 64) (j : Fin 512) : EReal :=
  Ideal.div (Online.num (seg b s) (gate X W1 b1 W2 b2) fun i => X (ix2 i j))
    (Online.den (seg b s) (gate X W1 b1 W2 b2) + eps)

end Cert.Spec

end
-- ==== Proof.Step.lean ====
/- One step of the kernel's three running quantities, read at an index over the extended reals. -/
module

public import proofs.«01_k».proof.Proof.Cases
public import proofs.«01_k».proof.Proof.Spec
public import Idealize.ShloMosaic.Lib.Pointwise
public import Idealize.ShloMosaic.Lib.MatmulPlain

@[expose] public section

noncomputable section

namespace Cert.KernelIdeal.Step

open Cert.Spec (select_of_iff fold_ite bit_eq ofBits_bot)
open Cert.KernelIdeal Cert.KernelIdeal.Gen Cert.KernelIdeal.Cases Idealize.ShloMosaic

variable (x0 : Vec Ideal S5000x512 .f32) (x1 : Vec Ideal S1x1x5000 .i32) (x2 : Vec Ideal S512x1024 .bf16)
  (x3 : Vec Ideal S1x1024 .bf16) (x4 : Vec Ideal S1x1024 .bf16) (x5 : Vec Ideal S1x1 .f32)

/-- The gate of row `k` of a block. -/
def gate (k : Fin 5000) : EReal :=
  (∑ c : Fin 1024, x4 (ix2 0 c) * max ((∑ a : Fin 512, x0 (ix2 k a) * x2 (ix2 a c)) + x3 (ix2 0 c)) 0) + x5 (ix2 0 0)

/-- Row `k` of a block is in segment `s`. -/
def Mem (s : Fin 64) (k : Fin 5000) : Prop := BitVec.ofNat 32 s.val = x1 (ix3 0 0 k)

instance (s : Fin 64) : DecidablePred (Mem x1 s) := fun _ => inferInstanceAs (Decidable (_ = _))

/-- The row of gates the body computes. -/
theorem pay11_apply (k : Fin 5000) : k0_pay11 x0 x2 x3 x4 x5 (ix2 0 k) = gate x0 x2 x3 x4 x5 k := by
  pointwise [k0_pay11, k0_pay10]
  rfl

/-- The membership bits the body computes. -/
theorem pay12_apply (s : Fin 64) (k : Fin 5000) : k0_pay12 (F := Ideal) x1 (ix2 s k) = 1#1 ↔ Mem x1 s k := by
  pointwise [k0_pay12]
  unfold Mem
  exact bit_eq _ _

/-- The mask is the least extended real. -/
theorem mask_eq : Named.named (F := Ideal) (φ := .f32) Cert.KernelIdeal.κ "mask" 0xF149F2CA#32 = (⊥ : EReal) :=
  IdealRules.named_const.ideal_named_scalar _ _ _ _ rfl

/-- The rows of a block in segment `s`. -/
def rows (s : Fin 64) : Finset (Fin 5000) := Finset.univ.filter (Mem x1 s)

/-- The new maximum: the old one against the gates of the block's members. -/
theorem newMax_apply (M : Vec Ideal S64x1 .f32) (s : Fin 64) :
    newMax x0 x1 x2 x3 x4 x5 M (ix2 s 0) = M (ix2 s 0) ⊔ (rows x1 s).sup (gate x0 x2 x3 x4 x5) := by
  pointwise [newMax, k0_pay13]
  rw [mask_eq, ofBits_bot]
  simp only [select_of_iff (pay12_apply x1 s _), pay11_apply]
  exact congrArg (max (M (ix2 s 0))) (fold_ite _ _)

/-- The new denominator: the old one rescaled, plus the members' exponentials. -/
theorem newDen_apply (M D : Vec Ideal S64x1 .f32) (s : Fin 64) :
    newDen x0 x1 x2 x3 x4 x5 M D (ix2 s 0)
      = D (ix2 s 0) * Ideal.exp (M (ix2 s 0) - newMax x0 x1 x2 x3 x4 x5 M (ix2 s 0))
        + ∑ k ∈ rows x1 s, Ideal.exp (gate x0 x2 x3 x4 x5 k - newMax x0 x1 x2 x3 x4 x5 M (ix2 s 0)) := by
  pointwise [newDen, k0_pay3, k0_pay2, k0_pay1]
  simp only [select_of_iff (pay12_apply x1 s _), pay11_apply]
  rw [← Finset.sum_filter]
  rfl

/-- The new weighted sum: the old one rescaled, plus the members' exponentials times their entries. -/
theorem newNum_apply (M : Vec Ideal S64x1 .f32) (O : Vec Ideal S64x512 .f32) (s : Fin 64) (j : Fin 512) :
    newNum x0 x1 x2 x3 x4 x5 M O (ix2 s j)
      = O (ix2 s j) * Ideal.exp (M (ix2 s 0) - newMax x0 x1 x2 x3 x4 x5 M (ix2 s 0))
        + ∑ k ∈ rows x1 s, Ideal.exp (gate x0 x2 x3 x4 x5 k - newMax x0 x1 x2 x3 x4 x5 M (ix2 s 0)) * x0 (ix2 k j) := by
  pointwise [newNum, k0_pay5, k0_pay2, k0_pay1, k0_pay10]
  simp only [select_of_iff (pay12_apply x1 s _), pay11_apply]
  rw [← Finset.sum_filter]
  rfl

/-- The last division. -/
theorem pay6_apply (O : Vec Ideal S64x512 .f32) (D : Vec Ideal S64x1 .f32) (s : Fin 64) (j : Fin 512) :
    k0_pay6 O D (ix2 s j) = Ideal.div (O (ix2 s j)) (D (ix2 s 0) + Spec.eps) := by
  pointwise [k0_pay6]
  rfl

/-- The running maximum starts at minus infinity. -/
theorem pay7_apply (s : Fin 64) : k0_pay7 (F := Ideal) (ix2 s 0) = (⊥ : EReal) := by
  pointwise [k0_pay7]
  exact mask_eq

/-- The running denominator starts at zero. -/
theorem pay8_apply (s : Fin 64) : k0_pay8 (F := Ideal) (ix2 s 0) = (0 : EReal) := by
  pointwise [k0_pay8]

/-- The accumulated output starts at zero. -/
theorem pay9_apply (s : Fin 64) (j : Fin 512) : k0_pay9 (F := Ideal) (ix2 s j) = (0 : EReal) := by
  pointwise [k0_pay9]

end Cert.KernelIdeal.Step

end
-- ==== Proof.Blocks.lean ====
/- What the kernel's input blocks hold, read from the arguments: block `t` of the rows and of the segment numbers are rows
   `5000 t` to `5000 t + 4999`, the weights and biases are whole. Hand-written, untrusted. -/
module

public import proofs.«01_k».proof.Proof.Step

@[expose] public section

noncomputable section

namespace Cert.KernelIdeal.Blocks

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD) (t : Fin cfg0.N)

/-- Row `k` of block `t`. -/
def row (k : Fin 5000) : Fin 100000 :=
  ⟨5000 * t.val + k.val, by have h := t.isLt; have h' : cfg0.N = 20 := N_0; have := k.isLt; omega⟩

/-! The arrays the host prepares before the launch, from the arguments. -/

/-- The segment numbers, cut into blocks. -/
theorem V_v0 : V m c main_v0 = shapeCast S20x1x5000 (m (c.tc.loc main_arg1)) shapeCasts_S100000_S20x1x5000 := by
  unfold V
  after_results
  rfl

/-- The first bias as a row. -/
theorem V_v2 : V m c main_v2
    = truncf (F := Ideal) .bf16 (shapeCast S1x1024 (m (c.tc.loc main_arg3)) shapeCasts_S1024_S1x1024) bitsLt_bf16_f32 := by
  unfold V
  after_results
  rfl

/-- The second weights as a row. -/
theorem V_v4 : V m c main_v4
    = truncf (F := Ideal) .bf16 (shapeCast S1x1024 (m (c.tc.loc main_arg4)) shapeCasts_S1024x1_S1x1024) bitsLt_bf16_f32 := by
  unfold V
  after_results
  rfl

/-- The second bias as a matrix of one entry. -/
theorem V_v5 : V m c main_v5 = shapeCast S1x1 (m (c.tc.loc main_arg5)) shapeCasts_S1_S1x1 := by
  unfold V
  after_results
  rfl

/-- The first weights, in the narrower format. -/
theorem V_v6 : V m c main_v6 = truncf (F := Ideal) .bf16 (m (c.tc.loc main_arg2)) bitsLt_bf16_f32 := by
  unfold V
  after_results

/-! Which block each window stands on at each point. -/

/-- The rows: block `t` at point `t`. -/
theorem index0 : ∀ t : Fin cfg0.N, win0_0.index t 0 = t.val ∧ win0_0.index t 1 = 0 := by decide

/-- The segment numbers: block `t` at point `t`. -/
theorem index1 : ∀ t : Fin cfg0.N, win0_1.index t 0 = t.val ∧ win0_1.index t 1 = 0 ∧ win0_1.index t 2 = 0 := by decide

/-- The first weights: the whole array at every point. -/
theorem index2 : ∀ t : Fin cfg0.N, win0_2.index t 0 = 0 ∧ win0_2.index t 1 = 0 := by decide

/-- The first bias: the whole array at every point. -/
theorem index3 : ∀ t : Fin cfg0.N, win0_3.index t 0 = 0 ∧ win0_3.index t 1 = 0 := by decide

/-- The second weights: the whole array at every point. -/
theorem index4 : ∀ t : Fin cfg0.N, win0_4.index t 0 = 0 ∧ win0_4.index t 1 = 0 := by decide

/-- The second bias: the whole array at every point. -/
theorem index5 : ∀ t : Fin cfg0.N, win0_5.index t 0 = 0 ∧ win0_5.index t 1 = 0 := by decide

/-- A block of rows. -/
theorem iblk0 (k : Fin 5000) (a : Fin 512) :
    (iblk m c 0 t : Vec Ideal S5000x512 .f32) (ix2 k a) = m (c.tc.loc main_arg0) (ix2 (row t k) a) := by
  unfold iblk
  rw [View.read_apply]
  show V m c main_arg0 _ = _
  rw [V_main_arg0]
  congr 1
  funext a'
  apply Fin.ext
  match a' with
  | ⟨0, _⟩ => show win0_0.index t 0 * 5000 + 1 * k.val = 5000 * t.val + k.val; rw [(index0 t).1]; omega
  | ⟨1, _⟩ => show win0_0.index t 1 * 512 + 1 * a.val = a.val; rw [(index0 t).2]; omega

/-- A block of segment numbers. -/
theorem iblk1 (k : Fin 5000) :
    (iblk m c 1 t : Vec Ideal S1x1x5000 .i32) (ix3 0 0 k) = m (c.tc.loc main_arg1) (ix1 (row t k)) := by
  unfold iblk
  rw [View.read_apply]
  show V m c main_v0 _ = _
  rw [V_v0]
  refine shapeCast_apply _ _ _ _ ?_
  refine (Shape.rowMajor_val_one (d := ![100000]) _).trans (Eq.trans ?_ (Shape.rowMajor_val_three (d := ![20, 1, 5000]) _).symm)
  show 5000 * t.val + k.val = ((win0_1.index t 0 * 1 + 1 * 0) * 1 + (win0_1.index t 1 * 1 + 1 * 0)) * 5000 + (win0_1.index t 2 * 5000 + 1 * k.val)
  rw [(index1 t).1, (index1 t).2.1, (index1 t).2.2]
  omega

/-- The first weights. -/
theorem iblk2 (a : Fin 512) (k : Fin 1024) :
    (iblk m c 2 t : Vec Ideal S512x1024 .bf16) (ix2 a k) = m (c.tc.loc main_arg2) (ix2 a k) := by
  unfold iblk
  rw [View.read_apply]
  show V m c main_v6 _ = _
  rw [V_v6]
  show m (c.tc.loc main_arg2) _ = _
  congr 1
  funext a'
  apply Fin.ext
  match a' with
  | ⟨0, _⟩ => show win0_2.index t 0 * 512 + 1 * a.val = a.val; rw [(index2 t).1]; omega
  | ⟨1, _⟩ => show win0_2.index t 1 * 1024 + 1 * k.val = k.val; rw [(index2 t).2]; omega

/-- The first bias. -/
theorem iblk3 (k : Fin 1024) :
    (iblk m c 3 t : Vec Ideal S1x1024 .bf16) (ix2 0 k) = m (c.tc.loc main_arg3) (ix1 k) := by
  unfold iblk
  rw [View.read_apply]
  show V m c main_v2 _ = _
  rw [V_v2]
  refine shapeCast_apply _ _ _ _ ?_
  refine (Shape.rowMajor_val_one (d := ![1024]) _).trans (Eq.trans ?_ (Shape.rowMajor_val_two (d := ![1, 1024]) _).symm)
  show k.val = (win0_3.index t 0 * 1 + 1 * 0) * 1024 + (win0_3.index t 1 * 1024 + 1 * k.val)
  rw [(index3 t).1, (index3 t).2]
  omega

/-- The second weights. -/
theorem iblk4 (k : Fin 1024) :
    (iblk m c 4 t : Vec Ideal S1x1024 .bf16) (ix2 0 k) = m (c.tc.loc main_arg4) (ix2 k 0) := by
  unfold iblk
  rw [View.read_apply]
  show V m c main_v4 _ = _
  rw [V_v4]
  refine shapeCast_apply _ _ _ _ ?_
  refine (Shape.rowMajor_val_two (d := ![1024, 1]) _).trans (Eq.trans ?_ (Shape.rowMajor_val_two (d := ![1, 1024]) _).symm)
  show k.val * 1 + 0 = (win0_4.index t 0 * 1 + 1 * 0) * 1024 + (win0_4.index t 1 * 1024 + 1 * k.val)
  rw [(index4 t).1, (index4 t).2]
  omega

/-- The second bias. -/
theorem iblk5 : (iblk m c 5 t : Vec Ideal S1x1 .f32) (ix2 0 0) = m (c.tc.loc main_arg5) (ix1 0) := by
  unfold iblk
  rw [View.read_apply]
  show V m c main_v5 _ = _
  rw [V_v5]
  refine shapeCast_apply _ _ _ _ ?_
  refine (Shape.rowMajor_val_one (d := ![1]) _).trans (Eq.trans ?_ (Shape.rowMajor_val_two (d := ![1, 1]) _).symm)
  show 0 = (win0_5.index t 0 * 1 + 1 * 0) * 1 + (win0_5.index t 1 * 1 + 1 * 0)
  rw [(index5 t).1, (index5 t).2]

end Cert.KernelIdeal.Blocks

end
-- ==== Proof.Sweep.lean ====
/- The kernel's sweep over the twenty blocks: after point `n` the three running quantities are those of the rows seen so
   far, and the last point leaves the common value. By induction on the point. Hand-written, untrusted. -/
module

public import proofs.«01_k».proof.Proof.Blocks

@[expose] public section

noncomputable section

namespace Cert.KernelIdeal.Sweep

open Cert.KernelIdeal Cert.KernelIdeal.Gen Cert.KernelIdeal.Value Cert.KernelIdeal.Cases Cert.KernelIdeal.Step
open Cert.KernelIdeal.Blocks Idealize.ShloMosaic Idealize.ShloMosaic.TcCoe Idealize.SL.Sem

variable (m : (ℓ : Loc nD τ sig) → Buf (Elt Ideal) ℓ) (c : Dev nD)

/-- The rows' gates, from the arguments. -/
def g : Fin 100000 → EReal :=
  Spec.gate (m (c.tc.loc main_arg0)) (m (c.tc.loc main_arg2)) (m (c.tc.loc main_arg3)) (m (c.tc.loc main_arg4))
    (m (c.tc.loc main_arg5))

/-- A column of the rows. -/
def col (j : Fin 512) (i : Fin 100000) : EReal :=
  (m (c.tc.loc main_arg0) : Vec Ideal S100000x512 .f32) (ix2 i j)

/-- The rows of segment `s`. -/
def seg (s : Fin 64) : Finset (Fin 100000) := Spec.seg (m (c.tc.loc main_arg1)) s

/-- The rows of segment `s` in the first `n` blocks. -/
def seen (n : Nat) (s : Fin 64) : Finset (Fin 100000) := (seg m c s).filter fun i => i.val < 5000 * n

section Block

variable (t : Fin cfg0.N)

/-- Rows of different places in a block are different. -/
def rowEmb : Fin 5000 ↪ Fin 100000 :=
  ⟨row t, fun a b h => Fin.ext (by have := congrArg Fin.val h; simp only [row] at this; omega)⟩

/-- The rows of segment `s` in block `t`. -/
def blk (s : Fin 64) : Finset (Fin 100000) :=
  (rows (iblk m c 1 t : Vec Ideal S1x1x5000 .i32) s).map (rowEmb t)

/-- A row is in block `t` of segment `s` when it is one of the segment and lies within the block. -/
theorem mem_blk (s : Fin 64) (i : Fin 100000) :
    i ∈ blk m c t s ↔ i ∈ seg m c s ∧ 5000 * t.val ≤ i.val ∧ i.val < 5000 * (t.val + 1) := by
  unfold blk rows Mem seg Spec.seg
  simp only [Finset.mem_map, Finset.mem_filter, Finset.mem_univ, true_and, iblk1]
  constructor
  · rintro ⟨k, hk, rfl⟩
    have := k.isLt
    refine ⟨hk, ?_, ?_⟩
    · show 5000 * t.val ≤ 5000 * t.val + k.val
      omega
    · show 5000 * t.val + k.val < 5000 * (t.val + 1)
      omega
  · rintro ⟨hk, h0, h1⟩
    have e : row t ⟨i.val - 5000 * t.val, by omega⟩ = i := Fin.ext (by simp only [row]; omega)
    exact ⟨⟨i.val - 5000 * t.val, by omega⟩, by rw [e]; exact hk, e⟩

/-- The rows of a block have not been seen before it. -/
theorem seen_disjoint (s : Fin 64) : Disjoint (seen m c t.val s) (blk m c t s) :=
  Finset.disjoint_left.2 fun i h h' => by
    have a := (Finset.mem_filter.1 h).2
    have b := ((mem_blk m c t s i).1 h').2.1
    omega

/-- The rows seen after a block are those seen before it and the block's. -/
theorem seen_succ (s : Fin 64) : seen m c t.val s ∪ blk m c t s = seen m c (t.val + 1) s := by
  ext i
  unfold seen
  rw [Finset.mem_union, mem_blk, Finset.mem_filter, Finset.mem_filter]
  constructor
  · rintro (⟨h, h'⟩ | ⟨h, h', h''⟩)
    · exact ⟨h, by omega⟩
    · exact ⟨h, h''⟩
  · rintro ⟨h, h'⟩
    by_cases hi : i.val < 5000 * t.val
    · exact .inl ⟨h, hi⟩
    · exact .inr ⟨h, by omega, h'⟩

/-- The gates the body computes in block `t` are the rows' gates. -/
theorem gate_blk : gate (iblk m c 0 t) (iblk m c 2 t) (iblk m c 3 t) (iblk m c 4 t) (iblk m c 5 t)
    = g m c ∘ rowEmb t := by
  funext k
  show gate _ _ _ _ _ k = Spec.gate _ _ _ _ _ (row t k)
  unfold gate Spec.gate
  simp only [iblk0, iblk2, iblk3, iblk4, iblk5]

variable (M D : Vec Ideal S64x1 .f32) (O : Vec Ideal S64x512 .f32)

/-- The running quantities are those of the rows `R`. -/
structure Holds (R : Fin 64 → Finset (Fin 100000)) : Prop where
  max (s : Fin 64) : M (ix2 s 0) = (R s).sup (g m c)
  den (s : Fin 64) : D (ix2 s 0) = Online.den (R s) (g m c)
  num (s : Fin 64) (j : Fin 512) : O (ix2 s j) = Online.num (R s) (g m c) (col m c j)

/-- The start values are those of no row. -/
theorem holds_start : Holds m c (k0_pay7 (F := Ideal)) (k0_pay8 (F := Ideal)) (k0_pay9 (F := Ideal)) fun _ => ∅ :=
  ⟨fun s => by rw [pay7_apply]; rfl, fun s => by rw [pay8_apply]; rfl, fun s j => by rw [pay9_apply]; rfl⟩

/-- One step takes the quantities of the rows seen to those of the rows seen and the block's. -/
theorem holds_step (h : Holds m c M D O (seen m c t.val)) :
    Holds m c
      (newMax (iblk m c 0 t) (iblk m c 1 t) (iblk m c 2 t) (iblk m c 3 t) (iblk m c 4 t) (iblk m c 5 t) M)
      (newDen (iblk m c 0 t) (iblk m c 1 t) (iblk m c 2 t) (iblk m c 3 t) (iblk m c 4 t) (iblk m c 5 t) M D)
      (newNum (iblk m c 0 t) (iblk m c 1 t) (iblk m c 2 t) (iblk m c 3 t) (iblk m c 4 t) (iblk m c 5 t) M O)
      (seen m c (t.val + 1)) := by
  have hmax (s : Fin 64) : newMax (iblk m c 0 t) (iblk m c 1 t) (iblk m c 2 t) (iblk m c 3 t) (iblk m c 4 t)
      (iblk m c 5 t) M (ix2 s 0) = (seen m c t.val s).sup (g m c) ⊔ (blk m c t s).sup (g m c) := by
    rw [newMax_apply, h.max, gate_blk, blk, Finset.sup_map]
  refine ⟨fun s => ?_, fun s => ?_, fun s j => ?_⟩
  · rw [hmax, ← Finset.sup_union, seen_succ]
  · rw [newDen_apply, hmax, h.max, h.den, gate_blk, ← seen_succ, ← Online.den_step _ _ _ (seen_disjoint m c t s),
      blk, Finset.sum_map]
    rfl
  · rw [newNum_apply, hmax, h.max, h.num, gate_blk, ← seen_succ, ← Online.num_step _ _ _ _ (seen_disjoint m c t s)]
    conv_rhs => rw [blk, Finset.sum_map]
    simp only [iblk0]
    rfl

end Block

/-- Before the first block no row is seen. -/
theorem seen_zero : seen m c 0 = fun _ => ∅ := by
  funext s
  unfold seen
  simp

/-- After the last block every row is. -/
theorem seen_all : seen m c 20 = seg m c := by
  funext s
  unfold seen
  exact Finset.filter_true_of_mem fun i _ => by have := i.isLt; omega

/-- After point `n`, the last one excepted. -/
theorem holds_at (n : Nat) (hn : n < cfg0.N) (h19 : n < 19) :
    Holds m c (outsAt0 m c n hn).2.1 (outsAt0 m c n hn).2.2 (outsAt0 m c n hn).1 (seen m c (n + 1)) := by
  induction n with
  | zero =>
    rw [outsAt0_zero, stAt0_A m c ⟨0, hn⟩ _ (Nat.zero_mod _) (by show ¬0 % 20 = 19; decide)]
    dsimp only
    rw [max_A, den_A, num_A]
    refine holds_step m c ⟨0, hn⟩ _ _ _ ?_
    rw [show (⟨0, hn⟩ : Fin cfg0.N).val = 0 from rfl, seen_zero]
    exact holds_start m c
  | succ n ih =>
    have ih := ih (Nat.lt_of_succ_lt hn) (by omega)
    rw [outsAt0_succ, stAt0_B m c ⟨n + 1, hn⟩ _ (by show ¬(n + 1) % 20 = 0; omega) (by show ¬(n + 1) % 20 = 19; omega)]
    dsimp only
    rw [max_B, den_B, num_B]
    exact holds_step m c ⟨n + 1, hn⟩ _ _ _ ih

/-- The kernel's result, read at an index. -/
theorem result_eq (s : Fin 64) (j : Fin 512) :
    (G6 m c : Vec Ideal S64x512 .f32) (ix2 s j)
      = Spec.result (m (c.tc.loc main_arg0)) (m (c.tc.loc main_arg1)) (m (c.tc.loc main_arg2)) (m (c.tc.loc main_arg3))
          (m (c.tc.loc main_arg4)) (m (c.tc.loc main_arg5)) s j := by
  have hN : 19 < cfg0.N := lt_of_lt_of_eq (by decide) N_0.symm
  have ih := holds_at m c 18 (Nat.lt_of_succ_lt hN) (by decide)
  have h := holds_step m c ⟨19, hN⟩ _ _ _ ih
  rw [G6_last, ← outsAt0_sweep m c 19 hN, outsAt0_succ m c 18 hN, stAt0_C m c ⟨19, hN⟩ _ (by show ¬19 % 20 = 0; decide) rfl]
  dsimp only
  rw [num_C, pay6_apply, h.num, h.den]
  rw [show (⟨19, hN⟩ : Fin cfg0.N).val + 1 = 20 from rfl, seen_all]
  rfl

end Cert.KernelIdeal.Sweep

end
-- ==== Proof.Reference.lean ====
/- The reference's stages read at an index: the gathers and the two scatters by segment, the maximum over a segment's
   rows, and so its result as the common value. Hand-written, untrusted. -/
module

public import proofs.«01_k».proof.Proof.Spec
public import proofs.«01_k».proof.Proof.Gen.ReferenceIdeal.Read
public import Idealize.ShloMosaic.Lib.StableHlo.Predicate
public import Idealize.ShloMosaic.Lib.Routing.OpsPair

@[expose] public section

noncomputable section

namespace Cert.ReferenceIdeal.Stages

open Cert.Spec (select_of_iff fold_ite bit_eq ofBits_bot ofBits_top)
open Cert.ReferenceIdeal Cert.ReferenceIdeal.Gen Cert.ReferenceIdeal.Read Idealize.ShloMosaic

/-! ## Scatters and gathers by segment -/

/-- A word read signed is a small number exactly when it is that number's word. -/
theorem toInt_eq_iff (w : BitVec 32) (s : Fin 64) : w.toInt = (s.val : Int) ↔ BitVec.ofNat 32 s.val = w := by
  have e : (BitVec.ofNat 32 s.val).toInt = (s.val : Int) :=
    StableHlo.Predicate.toInt_ofNat_small _ (by have := s.isLt; omega)
  rw [← e]
  exact ⟨fun h => (BitVec.eq_of_toInt_eq h).symm, fun h => by rw [h]⟩

section Scatter

variable (idx : IVec S100000x1 32) (i : Fin 100000) (s : Fin 64)

/-- Update `i` of the scatter of scalars starts at its index word, read signed. -/
theorem start1 : scatter_S64_S100000x1_S100000_n_0_0_1.start (ix1 i) idx 0 = (idx (ix2 i 0)).toInt := by
  unfold ScatterDims.start
  rw [dif_pos (show (0 : Fin S64.rank) ∈ scatter_S64_S100000x1_S100000_n_0_0_1.scatterDimsToOperandDims from
    List.mem_singleton.2 rfl)]
  refine congrArg (fun k => (idx k).toInt) (funext fun a => ?_)
  match a with
  | ⟨0, _⟩ => rfl
  | ⟨1, _⟩ => rfl

/-- Update `i` of the scatter of scalars lands at `s` when its index word is `s`'s. -/
theorem lands1 : scatter_S64_S100000x1_S100000_n_0_0_1.resultIdx? (ix1 i) idx = some (ix1 s)
    ↔ BitVec.ofNat 32 s.val = idx (ix2 i 0) := by
  rw [Routing.resultIdx?_eq_some, ← toInt_eq_iff, ← start1]
  have h' : scatter_S64_S100000x1_S100000_n_0_0_1.window (ix1 i) 0 = 0 := rfl
  constructor
  · intro e
    have := e 0
    rw [h'] at this
    simpa using this
  · intro e a
    obtain rfl : a = (0 : Fin 1) := Subsingleton.elim (α := Fin 1) _ _
    rw [h', e]
    simp

/-- The scatter of scalars at segment `s`: the updates whose index word is `s`'s. -/
theorem scatter1_eq (x : Vec Ideal S64 .f32) (u : Vec Ideal S100000 .f32) :
    Host.scatterAdd (F := Ideal) (φ := .f32) scatter_S64_S100000x1_S100000_n_0_0_1 x idx u (ix1 s)
      = x (ix1 s) + ∑ i ∈ Finset.univ.filter (fun i : Fin 100000 => BitVec.ofNat 32 s.val = idx (ix2 i 0)), u (ix1 i) := by
  show x (ix1 s) + ∑ k ∈ Finset.univ.filter
    (fun k => scatter_S64_S100000x1_S100000_n_0_0_1.resultIdx? k idx = some (ix1 s)), u k = _
  refine congrArg (x (ix1 s) + ·) ?_
  have hk (k : S100000.Idx) : ix1 (k 0) = k := (eq_ix1 k).symm
  refine Finset.sum_nbij' (fun k => k 0) (fun i => ix1 i) ?_ ?_ (fun k _ => hk k) (fun _ _ => rfl) (fun k _ => congrArg u (hk k).symm)
  · intro k h
    have h := (lands1 idx (k 0) s).1 ((congrArg (fun k =>
      scatter_S64_S100000x1_S100000_n_0_0_1.resultIdx? k idx) (hk k)).trans (Finset.mem_filter.1 h).2)
    exact Finset.mem_filter.2 ⟨Finset.mem_univ _, h⟩
  · intro i h
    exact Finset.mem_filter.2 ⟨Finset.mem_univ _, (lands1 idx i s).2 (Finset.mem_filter.1 h).2⟩

variable (j l : Fin 512)

/-- Update `(i, l)` of the scatter of rows starts at its row's index word, read signed. -/
theorem start2 : scatter_S64x512_S100000x1_S100000x512_1_0_0_1.start (ix2 i l) idx 0 = (idx (ix2 i 0)).toInt := by
  unfold ScatterDims.start
  rw [dif_pos (show (0 : Fin S64x512.rank) ∈ scatter_S64x512_S100000x1_S100000x512_1_0_0_1.scatterDimsToOperandDims from
    List.mem_singleton.2 rfl)]
  refine congrArg (fun k => (idx k).toInt) (funext fun a => ?_)
  match a with
  | ⟨0, _⟩ => rfl
  | ⟨1, _⟩ => rfl

/-- Update `(i, l)` of the scatter of rows lands at `(s, j)` when the row's index word is `s`'s and the columns agree. -/
theorem lands2 : scatter_S64x512_S100000x1_S100000x512_1_0_0_1.resultIdx? (ix2 i l) idx = some (ix2 s j)
    ↔ BitVec.ofNat 32 s.val = idx (ix2 i 0) ∧ l = j := by
  rw [Routing.resultIdx?_eq_some, ← toInt_eq_iff, ← start2 idx i l]
  have h0 : scatter_S64x512_S100000x1_S100000x512_1_0_0_1.window (ix2 i l) 0 = 0 := rfl
  have h1 : scatter_S64x512_S100000x1_S100000x512_1_0_0_1.window (ix2 i l) 1 = l.val := rfl
  have h2 : scatter_S64x512_S100000x1_S100000x512_1_0_0_1.start (ix2 i l) idx 1 = 0 := rfl
  constructor
  · intro e
    have e0 := e 0
    have e1 := e 1
    rw [h0] at e0
    rw [h1, h2] at e1
    refine ⟨by simpa using e0, Fin.ext ?_⟩
    have e1 : (0 : Int) + (l.val : Int) = (j.val : Int) := e1
    omega
  · rintro ⟨e, rfl⟩ a
    match a with
    | ⟨0, _⟩ =>
      show scatter_S64x512_S100000x1_S100000x512_1_0_0_1.start (ix2 i l) idx 0
        + ((scatter_S64x512_S100000x1_S100000x512_1_0_0_1.window (ix2 i l) 0 : Nat) : Int) = (s.val : Int)
      rw [h0, e]
      simp
    | ⟨1, _⟩ =>
      show scatter_S64x512_S100000x1_S100000x512_1_0_0_1.start (ix2 i l) idx 1
        + ((scatter_S64x512_S100000x1_S100000x512_1_0_0_1.window (ix2 i l) 1 : Nat) : Int) = (l.val : Int)
      rw [h1, h2]
      simp

/-- The scatter of rows at segment `s`, column `j`: the updates in that column whose row's index word is `s`'s. -/
theorem scatter2_eq (x : Vec Ideal S64x512 .f32) (u : Vec Ideal S100000x512 .f32) :
    Host.scatterAdd (F := Ideal) (φ := .f32) scatter_S64x512_S100000x1_S100000x512_1_0_0_1 x idx u (ix2 s j)
      = x (ix2 s j)
        + ∑ i ∈ Finset.univ.filter (fun i : Fin 100000 => BitVec.ofNat 32 s.val = idx (ix2 i 0)), u (ix2 i j) := by
  show x (ix2 s j) + ∑ k ∈ Finset.univ.filter
    (fun k => scatter_S64x512_S100000x1_S100000x512_1_0_0_1.resultIdx? k idx = some (ix2 s j)), u k = _
  refine congrArg (x (ix2 s j) + ·) ?_
  have hk (k : S100000x512.Idx) : ix2 (k 0) (k 1) = k := (eq_ix2 k).symm
  have hm (k : S100000x512.Idx)
      (h : k ∈ Finset.univ.filter
        (fun k => scatter_S64x512_S100000x1_S100000x512_1_0_0_1.resultIdx? k idx = some (ix2 s j))) :
      BitVec.ofNat 32 s.val = idx (ix2 (k 0) 0) ∧ ix2 (k 0) j = k := by
    have h := (lands2 idx (k 0) s j (k 1)).1 ((congrArg (fun k =>
      scatter_S64x512_S100000x1_S100000x512_1_0_0_1.resultIdx? k idx) (hk k)).trans (Finset.mem_filter.1 h).2)
    exact ⟨h.1, (congrArg (ix2 (k 0)) h.2.symm).trans (hk k)⟩
  refine Finset.sum_nbij' (fun k => k 0) (fun i => ix2 i j) ?_ ?_ (fun k h => (hm k h).2) (fun _ _ => rfl)
    (fun k h => congrArg u (hm k h).2.symm)
  · intro k h
    exact Finset.mem_filter.2 ⟨Finset.mem_univ _, (hm k h).1⟩
  · intro i h
    exact Finset.mem_filter.2 ⟨Finset.mem_univ _, (lands2 idx i s j j).2 ⟨(Finset.mem_filter.1 h).2, rfl⟩⟩

end Scatter

/-- A gather of scalars at a row whose index word is `s`'s reads entry `s`. -/
theorem take_eq (x : Vec Ideal S64 .f32) (idx : IVec S100000x1 32) (i : Fin 100000) (s : Fin 64)
    (h : idx (ix2 i 0) = BitVec.ofNat 32 s.val) :
    Host.gather gather_S64_S100000x1_S100000_n_0_n_n_0_1_1 x idx (ix1 i) = x (ix1 s) := by
  have hi : (Shape.Idx.ofFin i : (⟨1, ![100000]⟩ : Shape).Idx) = ix1 i := eq_ix1 _
  have hx : StableHlo.Predicate.ixP i = (ix2 i 0 : (⟨2, ![100000, 1]⟩ : Shape).Idx) := eq_ix2 _
  rw [← hi]
  refine (StableHlo.Predicate.gather_take gather_S64_S100000x1_S100000_n_0_n_n_0_1_1 rfl rfl rfl rfl x idx i
    (by decide)).trans (congrArg x ?_)
  refine (eq_ix1 _).trans (congrArg ix1 (Fin.ext ?_))
  show min (idx (StableHlo.Predicate.ixP i)).toInt.toNat 63 = s.val
  rw [hx, h, StableHlo.Predicate.toInt_ofNat_small _ (by have := s.isLt; omega)]
  have := s.isLt
  omega

/-- The wrap of negative indices leaves a segment's word alone. -/
theorem wrap_eq : ∀ s : Fin 64, Scalar.select (IntOp.cmpi .slt (BitVec.ofNat 32 s.val) 0#32)
    (IntOp.addi (BitVec.ofNat 32 s.val) 64#32) (BitVec.ofNat 32 s.val) = BitVec.ofNat 32 s.val := by
  decide

/-! ## The stages -/

section Stages

variable (x0 : (⟨S100000x512, .f32⟩ : BufTy).Contents (Elt Ideal)) (x1 : (⟨S100000, .i32⟩ : BufTy).Contents (Elt Ideal))
  (x2 : (⟨S512x1024, .f32⟩ : BufTy).Contents (Elt Ideal)) (x3 : (⟨S1024, .f32⟩ : BufTy).Contents (Elt Ideal))
  (x4 : (⟨S1024x1, .f32⟩ : BufTy).Contents (Elt Ideal)) (x5 : (⟨S1, .f32⟩ : BufTy).Contents (Elt Ideal))

/-- The gates. -/
theorem v10_apply (i : Fin 100000) : val_main_v10 (F := Ideal) x0 x2 x3 x4 x5 (ix1 i) = Spec.gate x0 x2 x3 x4 x5 i := by
  pointwise [val_main_v10, val_main_v9, val_main_v8, val_main_v7, val_main_v6, val_main_v5, val_main_v4, val_main_cst,
    val_main_v3, val_main_v2, val_main_v1, val_main_v0]
  unfold Spec.gate
  exact congrArg (· + _) (Finset.sum_congr rfl fun c _ => mul_comm _ _)

/-- A segment's largest gate. -/
theorem v19_apply (s : Fin 64) : val_main_v19 (F := Ideal) x0 x1 x2 x3 x4 x5 (ix1 s)
    = (Spec.seg x1 s).sup (Spec.gate x0 x2 x3 x4 x5) := by
  pointwise [val_main_v19, val_main_v18, val_main_call0_v2, val_main_call0_v1, val_main_call0_v0, val_main_cst_0,
    val_main_cst_1, val_main_v17, val_main_v16, val_main_v15, val_main_v14, val_main_v13, val_main_v12, val_main_v11]
  have e : (id (constant (F := Ideal) S_ .f32 0xFF800000#32) ix0 : EReal) = ⊥ := ofBits_bot
  simp only [select_of_iff ((bit_eq _ _).trans eq_comm), v10_apply, e, ofBits_bot]
  exact fold_ite _ _

/-- The largest gate, or zero where it is not finite. -/
theorem v23_apply (s : Fin 64) : val_main_v23 (F := Ideal) x0 x1 x2 x3 x4 x5 (ix1 s)
    = Online.shift ((Spec.seg x1 s).sup (Spec.gate x0 x2 x3 x4 x5)) := by
  rw [val_main_v23_apply, val_main_v22_apply, val_main_v20_apply, val_main_v21_apply, val_main_call1_v1_apply, v19_apply]
  generalize (Spec.seg x1 s).sup (Spec.gate x0 x2 x3 x4 x5) = M
  rw [val_main_cst_2_apply, val_main_call1_v0_apply, val_main_cst_3_apply]
  pointwise
  rw [ofBits_top]
  rfl

/-- The index of a row of segment `s`, after the wrap of negative ones. -/
theorem v29_apply (i : Fin 100000) (s : Fin 64) (h : BitVec.ofNat 32 s.val = x1 (ix1 i)) :
    val_main_v29 (F := Ideal) x1 (ix2 i 0) = BitVec.ofNat 32 s.val := by
  pointwise [val_main_v29, val_main_v28, val_main_v27, val_main_v26, val_main_v25, val_main_v24, val_main_c, val_main_c_4]
  rw [← h]
  exact wrap_eq s

/-- The wrapped index of a row of segment `s`, where the denominators are gathered. -/
theorem v41_apply (i : Fin 100000) (s : Fin 64) (h : BitVec.ofNat 32 s.val = x1 (ix1 i)) :
    val_main_v41 (F := Ideal) x1 (ix2 i 0) = BitVec.ofNat 32 s.val := by
  pointwise [val_main_v41, val_main_v40, val_main_v39, val_main_v38, val_main_v37, val_main_v36, val_main_c_6, val_main_c_7]
  rw [← h]
  exact wrap_eq s

/-- The exponential of a row of segment `s`. -/
theorem v32_apply (i : Fin 100000) (s : Fin 64) (h : BitVec.ofNat 32 s.val = x1 (ix1 i)) :
    val_main_v32 (F := Ideal) x0 x1 x2 x3 x4 x5 (ix1 i)
      = Ideal.exp (Spec.gate x0 x2 x3 x4 x5 i - Online.shift ((Spec.seg x1 s).sup (Spec.gate x0 x2 x3 x4 x5))) := by
  rw [val_main_v32_apply, val_main_v31_apply, v10_apply, val_main_v30,
    take_eq _ _ _ s (v29_apply x1 i s h), v23_apply]
  rfl

/-- A segment's denominator. -/
theorem v35_apply (s : Fin 64) : val_main_v35 (F := Ideal) x0 x1 x2 x3 x4 x5 (ix1 s)
    = ∑ i ∈ Spec.seg x1 s,
        Ideal.exp (Spec.gate x0 x2 x3 x4 x5 i - Online.shift ((Spec.seg x1 s).sup (Spec.gate x0 x2 x3 x4 x5))) := by
  rw [val_main_v35, scatter1_eq, val_main_v33_apply, val_main_cst_5_apply]
  have e (i : Fin 100000) : val_main_v34 (F := Ideal) x1 (ix2 i 0) = x1 (ix1 i) := by
    pointwise [val_main_v34]
  simp only [e]
  refine (congrArg (· + _) Spec.ofBits_zero).trans ((zero_add _).trans ?_)
  exact Finset.sum_congr rfl fun i hi => v32_apply x0 x1 x2 x3 x4 x5 i s (Finset.mem_filter.1 hi).2

/-- A row's share times an entry of it. -/
theorem v48_apply (i : Fin 100000) (s : Fin 64) (h : BitVec.ofNat 32 s.val = x1 (ix1 i)) (j : Fin 512) :
    val_main_v48 (F := Ideal) x0 x1 x2 x3 x4 x5 (ix2 i j)
      = Ideal.div (Ideal.exp (Spec.gate x0 x2 x3 x4 x5 i
            - Online.shift ((Spec.seg x1 s).sup (Spec.gate x0 x2 x3 x4 x5))))
          ((∑ k ∈ Spec.seg x1 s,
            Ideal.exp (Spec.gate x0 x2 x3 x4 x5 k - Online.shift ((Spec.seg x1 s).sup (Spec.gate x0 x2 x3 x4 x5))))
            + Spec.eps) * x0 (ix2 i j) := by
  have e : val_main_v48 (F := Ideal) x0 x1 x2 x3 x4 x5 (ix2 i j)
      = Ideal.div (val_main_v32 (F := Ideal) x0 x1 x2 x3 x4 x5 (ix1 i))
          (val_main_v42 (F := Ideal) x0 x1 x2 x3 x4 x5 (ix1 i) + Spec.eps) * x0 (ix2 i j) := by
    pointwise [val_main_v48, val_main_v47, val_main_v46, val_main_v45, val_main_v44, val_main_v43, val_main_cst_8]
    rfl
  rw [e, v32_apply x0 x1 x2 x3 x4 x5 i s h, val_main_v42, take_eq _ _ _ s (v41_apply x1 i s h), v35_apply]

/-- The reference's result is the common value. -/
theorem v51_apply (s : Fin 64) (j : Fin 512) : val_main_v51 (F := Ideal) x0 x1 x2 x3 x4 x5 (ix2 s j)
    = Spec.result x0 x1 x2 x3 x4 x5 s j := by
  rw [val_main_v51, scatter2_eq, val_main_v49_apply, val_main_cst_9_apply]
  have e (i : Fin 100000) : val_main_v50 (F := Ideal) x1 (ix2 i 0) = x1 (ix1 i) := by
    pointwise [val_main_v50]
  simp only [e]
  refine (congrArg (· + _) Spec.ofBits_zero).trans ((zero_add _).trans ?_)
  rw [Spec.result, Online.quotient _ _ _ Spec.eps_pos]
  exact Finset.sum_congr rfl fun i hi => v48_apply x0 x1 x2 x3 x4 x5 i s (Finset.mem_filter.1 hi).2 j

end Stages

end Cert.ReferenceIdeal.Stages

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Sweep
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, keeps its arguments and leaves every semaphore at zero. -/
theorem frame_kernel : Cert.quiescent_Kernel (hKernel := Cert.Kernel.Gen.facts) :=
  fun m g _ => Cert.Kernel.Gen.frame m g

/-- The idealized kernel runs, keeps its arguments and leaves every semaphore at zero. -/
theorem frame_ideal : Cert.quiescent_KernelIdeal (hKernelIdeal := Cert.KernelIdeal.Gen.facts) :=
  fun m g _ => Cert.KernelIdeal.Gen.frame m g

/-- The reference runs, keeps its arguments and, having no semaphore, leaves every one at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- The mask's word may be read as minus infinity. -/
theorem mask_named : Cert.preserves_Kernel_KernelIdeal :=
  IdealRules.named_const.statement Cert.KernelIdeal.κ "mask" .f32 0xF149F2CA#32 ⊥ rfl

/-- From arguments that agree, the reference's result is the kernel's: at every segment and column both are the common
    value. -/
theorem results_agree : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G6 m c, Cert.KernelIdeal.Value.run m g,
    (θ_run Cert.ReferenceIdeal.defs _ _).mono (fun r h c => ⟨(h c).1.trans ?_, (h c).2⟩)
      (Cert.ReferenceIdeal.Value.run (F := Ideal) m' g')⟩
  obtain ⟨h0, h1, h2, h3, h4, h5⟩ := hargs c
  rw [Cert.ReferenceIdeal.Read.val_main_v51_eq, h0, h1, h2, h3, h4, h5]
  funext k
  obtain ⟨s, j, rfl⟩ : ∃ (s : Fin 64) (j : Fin 512), k = ix2 s j := ⟨k 0, k 1, eq_ix2 k⟩
  exact (Cert.ReferenceIdeal.Stages.v51_apply _ _ _ _ _ _ s j).trans (Cert.KernelIdeal.Sweep.result_eq m c s j).symm

/-- Every claim of the certificate. -/
theorem claim : Cert.Claim :=
  ⟨Cert.Kernel.Gen.facts, Cert.KernelIdeal.Gen.facts, Cert.ReferenceIdeal.Gen.facts,
    frame_kernel, frame_ideal, frame_reference, mask_named, results_agree⟩

end Cert.Proof

end
